-- ==== Defs.lean ====
def Pre_Kernel (m : (ℓ : Loc Cert.Kernel.nD Cert.Kernel.τ Cert.Kernel.sig) → Buf (Elt Bits) ℓ) : Prop :=
  True

def Pre_Kernel_one_finite_top [hPre_one_finite_top : Cert.Pre_one_finite_top.Facts] (m : (ℓ : Loc Cert.Kernel.nD Cert.Kernel.τ Cert.Kernel.sig) → Buf (Elt Bits) ℓ) : Prop :=
  ∀ c : Dev Cert.Kernel.nD,
    (Cert.Pre_one_finite_top.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_one_finite_top : Cert.Pre_one_finite_top.Facts] (m : (ℓ : Loc Cert.KernelIdeal.nD Cert.KernelIdeal.τ Cert.KernelIdeal.sig) → Buf (Elt Ideal) ℓ) : Prop :=
  ∀ c : Dev Cert.KernelIdeal.nD,
    (Cert.Pre_one_finite_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_finite_top [hPre_one_finite_top : Cert.Pre_one_finite_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_finite_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_one_finite_top [hKernel : Cert.Kernel.Facts] [hPre_one_finite_top : Cert.Pre_one_finite_top.Facts] : Prop :=
  ∀ (m : (ℓ : Loc Cert.Kernel.nD Cert.Kernel.τ Cert.Kernel.sig) → Buf (Elt Bits) ℓ) (g : Dev Cert.Kernel.nD → PrngReg), Pre_Kernel_one_finite_top m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_one_finite_top : Cert.Pre_one_finite_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_one_finite_top [hReferenceIdeal : Cert.ReferenceIdeal.Facts] [hPre_one_finite_top : Cert.Pre_one_finite_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_finite_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_one_finite_top : Cert.Pre_one_finite_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_one_finite_top : Cert.Pre_one_finite_top.Facts),
    quiescent_Kernel (hKernel := hKernel)
    ∧ quiescent_Kernel_pre_one_finite_top (hKernel := hKernel) (hPre_one_finite_top := hPre_one_finite_top)
    ∧ quiescent_KernelIdeal (hKernelIdeal := hKernelIdeal) (hPre_one_finite_top := hPre_one_finite_top)
    ∧ quiescent_ReferenceIdeal (hReferenceIdeal := hReferenceIdeal)
    ∧ quiescent_ReferenceIdeal_pre_one_finite_top (hReferenceIdeal := hReferenceIdeal) (hPre_one_finite_top := hPre_one_finite_top)
    ∧ preserves_Kernel_KernelIdeal
    ∧ algebraic_KernelIdeal_ReferenceIdeal (hKernelIdeal := hKernelIdeal) (hReferenceIdeal := hReferenceIdeal) (hPre_one_finite_top := hPre_one_finite_top)
-- ==== Pre_one_finite_top.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

class Facts : Prop where
  transposes_S64x768_S768x64_1_0 : S64x768.Transposes [1, 0] S768x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  natLt_1_32 : 1 < 32
  bcast_S_S32768x1 : S_.BroadcastsInDim S32768x1 (![] : Fin 0 → Fin S32768x1.rank)
  dot_S32768x768_S768x64_S32768x64_1_0_0_1_n_n_wf : DotDims.WF S32768x768 S768x64 S32768x64 [1] [0] [0] [1] [] []

variable [Facts]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf
def fn {F : FTy → Type} [FloatOps F] (main_arg0 : FVec F S32768x768 .f32) (main_arg1 : FVec F S64x768 .f32) (main_arg2 : FVec F S64 .f32) : IVec S32768x1 1 :=
  let main_v0 : FVec F S768x64 .f32 := (transpose S768x64 [1, 0] · transposes_S64x768_S768x64_1_0) main_arg1
  let main_v1 : FVec F S32768x64 .f32 := (fun l r => Host.dotGeneral dot_S32768x768_S768x64_S32768x64_1_0_0_1_n_n none l r) main_arg0 main_v0
  let main_v2 : FVec F S1x64 .f32 := broadcastInDim S1x64 ![1] bcast_S64_S1x64_1 main_arg2
  let main_v3 : FVec F S32768x64 .f32 := broadcastInDim S32768x64 ![0, 1] bcast_S1x64_S32768x64_0_1 main_v2
  let main_v4 : FVec F S32768x64 .f32 := addf main_v1 main_v3
  let main_cst : FVec F S_ .f32 := constant S_ .f32 0xFF800000#32
  let main_v5 : FVec F S32768 .f32 := (fun x v => Host.reduce FloatOps.maximumf x v reducesTo_S32768x64_S32768_d1 h_S_) main_v4 main_cst
  let main_v6 : FVec F S32768x1 .f32 := broadcastInDim S32768x1 ![0] bcast_S32768_S32768x1_0 main_v5
  let main_v7 : FVec F S32768x64 .f32 := broadcastInDim S32768x64 ![0, 1] bcast_S32768x1_S32768x64_0_1 main_v6
  let main_v8 : IVec S32768x64 1 := cmpf .oeq main_v4 main_v7
  let main_v9 : IVec S32768x64 32 := (extui 32 · natLt_1_32) main_v8
  let main_c : IVec S_ 32 := constantI S_ 32 0#32
  let main_v10 : IVec S32768 32 := (fun x v => Host.reduce IntOp.addi x v reducesTo_S32768x64_S32768_d1 h_S_) main_v9 main_c
  let main_v11 : IVec S32768x1 32 := broadcastInDim S32768x1 ![0] bcast_S32768_S32768x1_0 main_v10
  let main_c_0 : IVec S_ 32 := constantI S_ 32 1#32
  let main_v12 : IVec S32768x1 32 := broadcastInDim S32768x1 ![] bcast_S_S32768x1 main_c_0
  let main_v13 : IVec S32768x1 1 := cmpi .eq main_v11 main_v12
  let main_cst_1 : FVec F S_ .f32 := constant S_ .f32 0x7F800000#32
  let main_v14 : FVec F S32768x1 .f32 := broadcastInDim S32768x1 ![] bcast_S_S32768x1 main_cst_1
  let main_v15 : IVec S32768x1 1 := cmpf .olt main_v6 main_v14
  let main_v16 : IVec S32768x1 1 := andi main_v13 main_v15
  main_v16
-- ==== Kernel.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S1x64 : Shape := ⟨2, ![1, 64]⟩
abbrev S32768x64 : Shape := ⟨2, ![32768, 64]⟩
abbrev S4096x768 : Shape := ⟨2, ![4096, 768]⟩
abbrev S4096x64 : Shape := ⟨2, ![4096, 64]⟩
abbrev S4096 : Shape := ⟨1, ![4096]⟩
abbrev S4096x1 : Shape := ⟨2, ![4096, 1]⟩

abbrev nBuf : Space → Nat
  | .hbm => 6
  | .vmem => 6
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S768x64, .f32⟩
  | .hbm, ⟨4, _⟩ => ⟨S1x64, .f32⟩
  | .hbm, ⟨5, _⟩ => ⟨S32768x64, .f32⟩
  | .local _ .vmem, ⟨0, _⟩ => ⟨S4096x768, .f32⟩
  | .local _ .vmem, ⟨1, _⟩ => ⟨S4096x768, .f32⟩
  | .local _ .vmem, ⟨2, _⟩ => ⟨S768x64, .f32⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S1x64 : Shape := ⟨2, ![1, 64]⟩
abbrev S32768x1 : Shape := ⟨2, ![32768, 1]⟩
abbrev S32768 : Shape := ⟨1, ![32768]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S768x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S32768x64, .f32⟩
  | .hbm, ⟨9, _⟩ => ⟨S32768x1, .f32⟩
  | .hbm, ⟨10, _⟩ => ⟨S32768, .f32⟩
  | .hbm, ⟨11, _⟩ => ⟨S32768x1, .f32⟩
  | .hbm, ⟨12, _⟩ => ⟨S32768x64, .f32⟩
  | .hbm, ⟨13, _⟩ => ⟨S32768x64, .i1⟩
  | .hbm, ⟨14, _⟩ => ⟨S_, .f32⟩
  | .hbm, ⟨15, _⟩ => ⟨S32768, .f32⟩
  | .hbm, ⟨16, _⟩ => ⟨S_, .f32⟩
  | .hbm, ⟨17, _⟩ => ⟨S32768, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | .hbm, ⟨22, _⟩ => ⟨S32768x64, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S32768x64, .f32⟩
  | .hbm, ⟨27, _⟩ => ⟨S32768x64, .f32⟩
  | .hbm, ⟨28, _⟩ => ⟨S_, .f32⟩
  | .hbm, ⟨29, _⟩ => ⟨S32768x64, .f32⟩
  | .hbm, ⟨30, _⟩ => ⟨S32768x64, .f32⟩
  | .hbm, ⟨31, _⟩ => ⟨S32768x64, .f32⟩
  | .hbm, ⟨32, _⟩ => ⟨S_, .f32⟩
  | .hbm, ⟨33, _⟩ => ⟨S32768x64, .f32⟩
  | .hbm, ⟨34, _⟩ => ⟨S32768x64, .f32⟩
  | .hbm, ⟨35, _⟩ => ⟨S32768x64, .f32⟩
  | .hbm, ⟨36, _⟩ => ⟨S_, .f32⟩
  | .hbm, ⟨37, _⟩ => ⟨S32768x64, .f32⟩
  | .hbm, ⟨38, _⟩ => ⟨S32768x64, .f32⟩
  | .hbm, ⟨39, _⟩ => ⟨S_, .f32⟩
  | .hbm, ⟨40, _⟩ => ⟨S32768x64, .f32⟩
  | .hbm, ⟨41, _⟩ => ⟨S32768x64, .f32⟩
  | .hbm, ⟨42, _⟩ => ⟨S32768x64, .f32⟩
  | .hbm, ⟨43, _⟩ => ⟨S_, .f32⟩
  | .hbm, ⟨44, _⟩ => ⟨S32768, .f32⟩
  | .hbm, ⟨45, _⟩ => ⟨S_, .f32⟩
  | .hbm, ⟨46, _⟩ => ⟨S32768, .f32⟩
  | .hbm, ⟨47, _⟩ => ⟨S32768, .f32⟩
  | .hbm, ⟨48, _⟩ => ⟨S32768x1, .f32⟩
  | .hbm, ⟨49, _⟩ => ⟨S32768x64, .f32⟩
  | .hbm, ⟨50, _⟩ => ⟨S32768x64, .f32⟩
  | .hbm, ⟨51, _⟩ => ⟨S32768x64, .f32⟩
  | .hbm, ⟨52, _⟩ => ⟨S_, .f32⟩
  | .hbm, ⟨53, _⟩ => ⟨S32768, .f32⟩
  | .hbm, ⟨54, _⟩ => ⟨S32768x1, .f32⟩
  | .hbm, ⟨55, _⟩ => ⟨S32768x64, .f32⟩
  | .hbm, ⟨56, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Proof.Row.lean ====
/-
  The gating of ONE token as a function of its 64 logits, twice: as the kernel computes it (`kernelRow`) and as the
  reference writes it (`refRow`), over the extended reals; and the theorem that the two agree on a row whose greatest
  logit is held by one expert and is below `+∞` (`kernelRow_eq_refRow`).

  The kernel finds the second largest logit by masking the arg-max lane out and taking the maximum again; the reference
  sorts the row. The kernel takes `(1 + p)^10` where the reference takes `exp (10 log (p + 1))` with the row's maximum
  subtracted in the exponent first.
-/
module

public import Idealize.ShloMosaic.PureOps.Ideal.Laws

@[expose] public section

noncomputable section

namespace Cert.Gating

open Idealize.ShloMosaic

/-- A row of logits: one extended real for each of the 64 experts. -/
abbrev Row := Fin 64 → EReal

/-- The greatest entry of a row, as a fold of `max` from `-∞`. -/
def top (z : Row) : EReal := Finset.univ.fold max ⊥ z

/-- The row with the entry of expert `i` replaced by `-∞`. -/
def without (z : Row) (i : Fin 64) : Row := fun j => if j = i then ⊥ else z j

/-- Expert `i` alone holds the row's greatest logit, and that logit is not `+∞`. -/
structure OneTop (z : Row) (i : Fin 64) : Prop where
  lt : ∀ j, j ≠ i → z j < z i
  fin : z i < ⊤

/-! ## The two computations -/

/-- The exponential of each logit less the greatest. -/
def expRow (z : Row) (M : EReal) : Row := fun j => Ideal.exp (z j - M)

/-- The kernel's unnormalised gates, from the row, its greatest and its second greatest logit. -/
def kernelWeight (z : Row) (m₁ m₂ : EReal) : Row := fun j =>
  let r := Ideal.div 1 (∑ k, expRow z m₁ k)
  let t := 1 + expRow z m₁ j * r
  let t₂ := t * t
  let t₄ := t₂ * t₂
  let t₈ := t₄ * t₄
  if z j < m₂ then t₈ * t₂
  else if z j = m₁ then Ideal.exp (10 * (Ideal.exp r - 1))
  else Ideal.exp (10 * (Ideal.exp (Ideal.exp (m₂ - m₁) * r) - 1))

/-- The kernel's gates of one row, where `i` is the lane that the index reduction answers. -/
def kernelRow (z : Row) (i : Fin 64) : Row := fun j =>
  let u := kernelWeight z (top z) (top (without z i))
  u j * Ideal.div 1 (∑ k, u k)

/-- The softmax of a row. -/
def softmax (z : Row) : Row := fun j =>
  Ideal.div (expRow z (top z) j) (∑ k, expRow z (top z) k)

/-- The reference's transformed probabilities: `10 log (p + 1)` below the threshold `κ`, `10 (exp p - 1)` from it on. -/
def refScore (z : Row) (κ : EReal) : Row := fun j =>
  if z j < κ then 10 * Ideal.log (softmax z j + 1) else 10 * (Ideal.exp (softmax z j) - 1)

/-- The reference's gates of one row, `κ` being the second greatest logit. -/
def refRow (z : Row) (κ : EReal) : Row := softmax (refScore z κ)

/-! ## The greatest entry -/

/-- Every entry is at most the greatest. -/
theorem le_top (z : Row) (j : Fin 64) : z j ≤ top z :=
  (Finset.le_fold_max (z j)).mpr (Or.inr ⟨j, Finset.mem_univ j, le_rfl⟩)

/-- A bound of every entry bounds the greatest. -/
theorem top_le (z : Row) (M : EReal) (h : ∀ j, z j ≤ M) : top z ≤ M :=
  (Finset.fold_max_le M).mpr ⟨bot_le, fun j _ => h j⟩

/-- An entry that bounds every entry is the greatest. -/
theorem top_eq (z : Row) (i : Fin 64) (h : ∀ j, z j ≤ z i) : top z = z i :=
  le_antisymm (top_le z _ h) (le_top z i)

/-- No entry exceeds the top expert's. -/
theorem OneTop.le {z : Row} {i : Fin 64} (h : OneTop z i) (j : Fin 64) : z j ≤ z i := by
  by_cases e : j = i
  · rw [e]
  · exact (h.lt j e).le

/-- The greatest entry is the top expert's. -/
theorem OneTop.top_eq {z : Row} {i : Fin 64} (h : OneTop z i) : top z = z i := Gating.top_eq z i h.le

/-- The greatest logit is a real number. -/
theorem OneTop.real {z : Row} {i : Fin 64} (h : OneTop z i) : ∃ M : ℝ, z i = M := by
  have hb : z i ≠ ⊥ := by
    obtain ⟨j, hj⟩ : ∃ j : Fin 64, j ≠ i := exists_ne i
    exact (lt_of_le_of_lt bot_le (h.lt j hj)).ne'
  exact ⟨(z i).toReal, (EReal.coe_toReal h.fin.ne hb).symm⟩

/-- A row of real numbers has a real greatest entry. -/
theorem top_coe (o : Fin 64 → ℝ) : ∃ M : ℝ, top (fun j => (o j : EReal)) = M := by
  obtain ⟨i, -, hi⟩ := Finset.exists_max_image Finset.univ o ⟨0, Finset.mem_univ _⟩
  exact ⟨o i, Gating.top_eq (fun j => (o j : EReal)) i fun j => EReal.coe_le_coe_iff.mpr (hi j (Finset.mem_univ j))⟩

/-! ## Real forms -/

/-- A sum of reals, read as extended reals, is their real sum. -/
theorem coe_sum (f : Fin 64 → ℝ) : ∑ k, ((f k : ℝ) : EReal) = ((∑ k, f k : ℝ) : EReal) := by
  induction (Finset.univ : Finset (Fin 64)) using Finset.induction_on with
  | empty => simp
  | insert a s ha ih => rw [Finset.sum_insert ha, Finset.sum_insert ha, ih, EReal.coe_add]

/-- The quotient of two reals by a nonzero one is their real quotient. -/
theorem div_coe_coe (x y : ℝ) (h : y ≠ 0) : Ideal.div (x : EReal) (y : EReal) = ((x / y : ℝ) : EReal) := by
  rw [Ideal.div_coe h, ← EReal.coe_mul, mul_one_div]

/-- The reciprocal of a nonzero real is its real reciprocal. -/
theorem one_div_coe (y : ℝ) (h : y ≠ 0) : Ideal.div 1 (y : EReal) = ((1 / y : ℝ) : EReal) :=
  div_coe_coe 1 y h

/-- Each exponential of the row less its greatest logit is a real number, not negative; it is `1` at the top. -/
theorem exists_exp {z : Row} {i : Fin 64} (h : OneTop z i) :
    ∃ E : Fin 64 → ℝ, (∀ j, Ideal.exp (z j - z i) = E j) ∧ (∀ j, 0 ≤ E j) ∧ E i = 1 := by
  obtain ⟨M, hM⟩ := h.real
  have key : ∀ j, ∃ e : ℝ, Ideal.exp (z j - z i) = e ∧ 0 ≤ e ∧ (j = i → e = 1) := by
    intro j
    rw [hM]
    induction hz : z j using EReal.rec with
    | bot =>
      refine ⟨0, by simp, le_rfl, fun e => ?_⟩
      rw [e, hM] at hz; exact absurd hz (EReal.coe_ne_bot M)
    | top =>
      have := h.le j
      rw [hz, hM] at this
      exact absurd (top_le_iff.mp this) (EReal.coe_ne_top M)
    | coe r =>
      refine ⟨Real.exp (r - M), by rw [← EReal.coe_sub, Ideal.exp_coe], (Real.exp_pos _).le, fun e => ?_⟩
      rw [e, hM] at hz
      rw [show r = M from (EReal.coe_injective hz).symm, sub_self, Real.exp_zero]
  choose E hE h0 h1 using key
  exact ⟨E, hE, h0, h1 i rfl⟩

/-- The softmax of a row of real numbers, with no maximum subtracted. -/
theorem softmax_coe (o : Fin 64 → ℝ) (j : Fin 64) :
    softmax (fun k => (o k : EReal)) j = ((Real.exp (o j) / ∑ k, Real.exp (o k) : ℝ) : EReal) := by
  obtain ⟨M, hM⟩ := top_coe o
  have he : ∀ k, expRow (fun k => (o k : EReal)) (M : EReal) k = ((Real.exp (o k) / Real.exp M : ℝ) : EReal) := by
    intro k
    rw [expRow, ← EReal.coe_sub, Ideal.exp_coe, Real.exp_sub]
  have hp : 0 < ∑ k, Real.exp (o k) := Finset.sum_pos (fun k _ => Real.exp_pos _) ⟨0, Finset.mem_univ _⟩
  have hs : (∑ k, Real.exp (o k) / Real.exp M) ≠ 0 := by
    rw [← Finset.sum_div]; exact (div_pos hp (Real.exp_pos _)).ne'
  unfold softmax
  rw [hM]
  simp only [he]
  rw [coe_sum, div_coe_coe _ _ hs, ← Finset.sum_div, div_div_div_cancel_right₀ (Real.exp_ne_zero M)]

/-- The softmax of a row with one top, through its real exponentials. -/
theorem softmax_oneTop {z : Row} {i : Fin 64} (h : OneTop z i) (E : Fin 64 → ℝ)
    (hE : ∀ j, Ideal.exp (z j - z i) = E j) (hS : (∑ k, E k) ≠ 0) (j : Fin 64) :
    softmax z j = ((E j / ∑ k, E k : ℝ) : EReal) := by
  unfold softmax expRow
  rw [h.top_eq]
  simp only [hE]
  rw [coe_sum, div_coe_coe _ _ hS]

/-- The tenth power as an exponential: `(1 + p)^10 = exp (10 log (p + 1))` for `p ≥ 0`. -/
theorem pow_ten (p : ℝ) (hp : 0 ≤ p) : Real.exp (10 * Real.log (p + 1)) = (1 + p) ^ 10 := by
  have h1 : 0 < p + 1 := by linarith
  rw [mul_comm, Real.exp_mul, Real.exp_log h1]
  rw [show (10 : ℝ) = ((10 : ℕ) : ℝ) by norm_num, Real.rpow_natCast, add_comm]

/-- Ten, as an extended real, is the real ten. -/
theorem ten_coe : (10 : EReal) = ((10 : ℝ) : EReal) := rfl
/-- One, as an extended real, is the real one. -/
theorem one_coe : (1 : EReal) = ((1 : ℝ) : EReal) := rfl

/-! ## The equation -/

/-- The kernel's unnormalised gate is the exponential of the reference's score, a real number. -/
theorem weight_eq_exp_score {z : Row} {i : Fin 64} (h : OneTop z i) :
    ∃ o : Fin 64 → ℝ, (∀ j, refScore z (top (without z i)) j = o j)
      ∧ (∀ j, kernelWeight z (top z) (top (without z i)) j = ((Real.exp (o j) : ℝ) : EReal)) := by
  obtain ⟨E, hE, hE0, hEi⟩ := exists_exp h
  have hSpos : 0 < ∑ k, E k :=
    lt_of_lt_of_le (by rw [hEi]; exact one_pos) (Finset.single_le_sum (fun k _ => hE0 k) (Finset.mem_univ i))
  have hS := hSpos.ne'
  have hp : ∀ j, 0 ≤ E j / ∑ k, E k := fun j => div_nonneg (hE0 j) hSpos.le
  have hr : Ideal.div 1 (∑ k, expRow z (top z) k) = ((1 / ∑ k, E k : ℝ) : EReal) := by
    unfold expRow
    rw [h.top_eq]
    simp only [hE]
    rw [coe_sum, one_div_coe _ hS]
  have hx : ∀ j, expRow z (top z) j = (E j : EReal) := fun j => by unfold expRow; rw [h.top_eq, hE]
  refine ⟨fun j => if z j < top (without z i) then 10 * Real.log (E j / (∑ k, E k) + 1)
    else 10 * (Real.exp (E j / ∑ k, E k) - 1), fun j => ?_, fun j => ?_⟩
  · unfold refScore
    rw [softmax_oneTop h E hE hS]
    beta_reduce
    split
    · rw [one_coe, ← EReal.coe_add, Ideal.log_coe, if_neg (by linarith [hp j]), ten_coe, ← EReal.coe_mul]
    · rw [one_coe, Ideal.exp_coe, ← EReal.coe_sub, ten_coe, ← EReal.coe_mul]
  · unfold kernelWeight
    simp only [hr]
    simp only [hx]
    by_cases hlt : z j < top (without z i)
    · rw [if_pos hlt, if_pos hlt, pow_ten _ (hp j)]
      simp only [one_coe, ← EReal.coe_mul, ← EReal.coe_add]
      congr 1
      ring
    · rw [if_neg hlt, if_neg hlt, h.top_eq]
      by_cases hj : z j = z i
      · have hji : j = i := by
          by_contra hne
          exact absurd hj (h.lt j hne).ne
        rw [if_pos hj, one_coe, ten_coe, Ideal.exp_coe, ← EReal.coe_sub, ← EReal.coe_mul, Ideal.exp_coe, hji, hEi]
      · have hne : j ≠ i := fun e => hj (by rw [e])
        have h2 : top (without z i) = z j := by
          refine le_antisymm (not_lt.mp hlt) ?_
          have := le_top (without z i) j
          rwa [without, if_neg hne] at this
        rw [if_neg hj, h2, hE, one_coe, ten_coe, ← EReal.coe_mul, Ideal.exp_coe, ← EReal.coe_sub, ← EReal.coe_mul,
          Ideal.exp_coe, mul_one_div]

/-- ONE TOKEN: on a row of logits with one finite top the kernel's gates are the reference's. -/
theorem kernelRow_eq_refRow {z : Row} {i : Fin 64} (h : OneTop z i) (j : Fin 64) :
    kernelRow z i j = refRow z (top (without z i)) j := by
  obtain ⟨o, ho, hu⟩ := weight_eq_exp_score h
  have hp : 0 < ∑ k, Real.exp (o k) := Finset.sum_pos (fun k _ => Real.exp_pos _) ⟨0, Finset.mem_univ _⟩
  unfold kernelRow refRow
  simp only [hu]
  rw [show refScore z (top (without z i)) = fun k => (o k : EReal) from funext ho, softmax_coe, coe_sum,
    one_div_coe _ hp.ne', ← EReal.coe_mul, mul_one_div]

end Cert.Gating

end
-- ==== Proof.Choice.lean ====
/-
  How the two programs find the second greatest logit of a row: the kernel's index reduction answers the expert holding
  the top (`argMax_row`), and position 62 of the sorted row holds the greatest logit of the others (`sorted_second`).
-/
module

public import proofs.«01_k».proof.Proof.Row
public import Idealize.ShloMosaic.Lib.SortFacts
public import Idealize.ShloMosaic.Lib.Pointwise

@[expose] public section

noncomputable section

namespace Cert.Gating

open Idealize.ShloMosaic

/-- Sorting ascending, by any comparator that is strict order on the row: position 62 of 64 holds the greatest logit
    of the experts other than the one on top. -/
theorem sorted_second {z : Row} {i : Fin 64} (h : OneTop z i) (before : Fin 64 → Fin 64 → Bool)
    (hb : ∀ a b, before a b = true ↔ z a < z b) : z (sortedFrom before 62) = top (without z i) := by
  have hn : ∀ a b, before a b = false ↔ z b ≤ z a := fun a b => by
    rw [← Bool.not_eq_true, hb, not_lt]
  have mono : ∀ p q : Fin 64, p < q → z (sortedFrom before p) ≤ z (sortedFrom before q) := fun p q hpq =>
    (hn _ _).mp (sortedFrom_noInversion before before (fun a b hab => (hn b a).mpr ((hb a b).mp hab).le)
      (fun _ _ hab => hab) (fun a b c hab hbc => (hn a c).mpr (((hn b c).mp hbc).trans ((hn a b).mp hab))) p q hpq)
  have last : sortedFrom before 63 = i := by
    obtain ⟨p, hp⟩ := sortedFrom_surjective before i
    by_contra hne
    have hp63 : p < 63 := lt_of_le_of_ne (Fin.le_last p) fun e => hne (e ▸ hp)
    have := mono p 63 hp63
    rw [hp] at this
    exact absurd (h.lt _ hne) (not_lt.mpr this)
  have ne62 : sortedFrom before 62 ≠ i := fun e =>
    absurd (sortedFrom_injective before (e.trans last.symm)) (by decide)
  refine le_antisymm ?_ (top_le _ _ fun j => ?_)
  · have := le_top (without z i) (sortedFrom before 62)
    rwa [without, if_neg ne62] at this
  · unfold without
    split
    · exact bot_le
    · rename_i hj
      obtain ⟨q, rfl⟩ := sortedFrom_surjective before j
      have hq : q ≠ 63 := fun e => hj (e ▸ last)
      rcases lt_or_eq_of_le (show q ≤ 62 from by have := q.isLt; rw [Fin.le_def]; rw [Ne, Fin.ext_iff] at hq; simp at hq ⊢; omega) with hlt | he
      · exact mono q 62 hlt
      · rw [he]

/-- The index reduction over the lanes of an `n × 64` array, at a row with one top: the lane of the top. -/
theorem argMax_row {n : ℕ} (h : (⟨2, ![n, 64]⟩ : Shape).Reduces [1] ⟨1, ![n]⟩) (x : (⟨2, ![n, 64]⟩ : Shape).Idx → EReal)
    (r : Fin n) (i : Fin 64) (hi : OneTop (fun j => x (ix2 r j)) i) :
    Ideal.reduceIndex .argMax 1 h x (ix1 r) = BitVec.ofNat 32 i.val := by
  have hd : ∀ y : (⟨2, ![n, 64]⟩ : Shape).Idx, h.drop y = ix1 r ↔ y 0 = r := fun y => by
    rw [funext_iff]
    constructor
    · intro e
      exact Fin.ext ((show (h.drop y 0 : ℕ) = y 0 from rfl).symm.trans (congrArg Fin.val (e 0)))
    · intro e b
      match b with
      | ⟨0, _⟩ => exact Fin.ext ((show (h.drop y 0 : ℕ) = y 0 from rfl).trans (congrArg Fin.val e))
  unfold Ideal.reduceIndex
  simp only [if_true]
  have hset : ((Finset.univ.filter fun y : (⟨2, ![n, 64]⟩ : Shape).Idx => h.drop y = ix1 r).filter fun y =>
      ∀ y' ∈ Finset.univ.filter fun y : (⟨2, ![n, 64]⟩ : Shape).Idx => h.drop y = ix1 r, ¬ x y < x y') = {ix2 r i} := by
    ext y
    simp only [Finset.mem_filter, Finset.mem_univ, true_and, Finset.mem_singleton, hd]
    constructor
    · rintro ⟨hy, hmax⟩
      have hyi : x (ix2 r (y 1)) = x y := by rw [← hy, ← eq_ix2 y]
      by_contra hne
      have h1 : y 1 ≠ i := fun e => hne (by rw [eq_ix2 y, hy, e])
      exact hmax (ix2 r i) rfl (hyi ▸ hi.lt (y 1) h1)
    · rintro rfl
      refine ⟨rfl, fun y' hy' => not_lt.mpr ?_⟩
      rw [eq_ix2 y', hy']
      exact hi.le (y' 1)
  rw [hset]
  simp [Finset.image_singleton, Finset.min_singleton]
  rfl

end Cert.Gating

end
-- ==== Proof.Consts.lean ====
/-
  The two float constants of the programs that have no named value in the library: the patterns of `-∞` and of ten.
-/
module

public import proofs.«01_k».proof.Proof.Row
public import Idealize.ShloMosaic.Lib.IdealHost

@[expose] public section

noncomputable section

namespace Cert.Gating

open Idealize.ShloMosaic

/-- The pattern `0xFF800000` is `-∞`. -/
theorem pattern_bot : Ideal.ofBits .f32 0xFF800000#32 = ⊥ := by
  simp [Ideal.ofBits, Ideal.ieee]

/-- The pattern `0x7F800000` is `+∞`. -/
theorem pattern_top : Ideal.ofBits .f32 0x7F800000#32 = ⊤ := by
  simp [Ideal.ofBits, Ideal.ieee]

/-- The pattern `0x41200000` is ten. -/
theorem pattern_ten : Ideal.ofBits .f32 0x41200000#32 = 10 := by
  rw [ten_coe]
  simp [Ideal.ofBits, Ideal.ieee, -EReal.coe_mul]; norm_num

end Cert.Gating

end
-- ==== Proof.Block.lean ====
/-
  ONE BLOCK of the kernel: what its body computes from 4096 rows of tokens, read at a token and an expert, is the
  kernel's gating of that token's logits (`block_apply`). One lemma per value the body names.
-/
module

public import proofs.«01_k».proof.Proof.Choice
public import proofs.«01_k».proof.Proof.Consts
public import proofs.«01_k».proof.Proof.Gen.KernelIdeal.Skeleton

@[expose] public section

noncomputable section

namespace Cert.Gating

open Idealize.ShloMosaic Cert.KernelIdeal Cert.KernelIdeal.Gen

variable (v0 : Vec Ideal S4096x768 .f32) (v1 : Vec Ideal S768x64 .f32) (v4 : Vec Ideal S1x64 .f32)

/-- The logits of the block's token `r`. -/
def blockRow (r : Fin 4096) : Row := fun j => ∑ x, v0 (ix2 r x) * v1 (ix2 x j) + v4 (ix2 0 j)

/-- The body's logits are the block's rows. -/
theorem pay2_apply (r : Fin 4096) (j : Fin 64) : k0_pay2 v0 v1 v4 (ix2 r j) = blockRow v0 v1 v4 r j := by
  unfold blockRow
  pointwise [k0_pay2]

/-- The body's first maximum is the row's greatest logit. -/
theorem pay3_apply (r : Fin 4096) : k0_pay3 v0 v1 v4 (ix2 r 0) = top (blockRow v0 v1 v4 r) := by
  unfold top
  pointwise [k0_pay3]
  simp only [pay2_apply, pattern_bot]

/-- Two lane numbers below 64 are the same word exactly when they are the same lane. -/
theorem lane_eq (k i : Fin 64) : IntOp.cmpi .eq (BitVec.ofNat 32 k.val) (BitVec.ofNat 32 i.val) = BitVec.ofBool (decide (k = i)) := by
  unfold IntOp.cmpi
  congr 1
  have hk := k.isLt
  have hi := i.isLt
  rw [Bool.eq_iff_iff]
  simp only [beq_iff_eq, decide_eq_true_eq]
  constructor
  · intro e
    have := congrArg BitVec.toNat e
    rw [BitVec.toNat_ofNat, BitVec.toNat_ofNat, Nat.mod_eq_of_lt (by omega), Nat.mod_eq_of_lt (by omega)] at this
    exact Fin.ext this
  · rintro rfl; rfl

/-- The body's second maximum is the greatest of the row with its top expert taken out. -/
theorem pay4_apply (r : Fin 4096) (i : Fin 64) (h : OneTop (blockRow v0 v1 v4 r) i) :
    k0_pay4 v0 v1 v4 (ix2 r 0) = top (without (blockRow v0 v1 v4 r) i) := by
  have ha : reduceIndex .argMax 1 S4096 (k0_pay2 v0 v1 v4) reduces_S4096x64_S4096 (ix1 r) = BitVec.ofNat 32 i.val :=
    argMax_row _ _ r i (by simp only [pay2_apply]; exact h)
  unfold top without
  pointwise [k0_pay4]
  rw [ha, pattern_bot]
  refine congrArg (fun f => Finset.fold max ⊥ f Finset.univ) (funext fun k => ?_)
  rw [lane_eq, pay2_apply]
  by_cases e : k = i <;> simp [Scalar.select, e]

/-- The body's shifted exponential at an expert. -/
theorem pay5_apply (r : Fin 4096) (j : Fin 64) :
    k0_pay5 v0 v1 v4 (ix2 r j) = expRow (blockRow v0 v1 v4 r) (top (blockRow v0 v1 v4 r)) j := by
  unfold expRow
  pointwise [k0_pay5]
  rw [pay2_apply, pay3_apply]

/-- The body's reciprocal of the sum of the row's shifted exponentials. -/
theorem pay6_apply (r : Fin 4096) :
    k0_pay6 v0 v1 v4 (ix2 r 0) = Ideal.div 1 (∑ k, expRow (blockRow v0 v1 v4 r) (top (blockRow v0 v1 v4 r)) k) := by
  pointwise [k0_pay6]
  simp only [pay5_apply]

/-- The block the body stores, read at token `r` and expert `j`, where expert `i` alone holds the token's top logit. -/
theorem block_apply (r : Fin 4096) (i : Fin 64) (h : OneTop (blockRow v0 v1 v4 r) i) (j : Fin 64) :
    k0_pay1 (k0_pay2 v0 v1 v4) (k0_pay3 v0 v1 v4) (k0_pay4 v0 v1 v4) (k0_pay7 v0 v1 v4) (k0_pay8 v0 v1 v4)
      (k0_pay9 v0 v1 v4) (ix2 r j) = kernelRow (blockRow v0 v1 v4 r) i j := by
  unfold kernelRow kernelWeight
  pointwise [k0_pay1, k0_pay7, k0_pay8, k0_pay9]
  simp only [pay2_apply, pay3_apply, pay4_apply v0 v1 v4 r i h, pay5_apply, pay6_apply, pattern_ten]

end Cert.Gating

end
-- ==== Proof.Ref.lean ====
/-
  THE REFERENCE at an index: its result is a softmax of transformed probabilities, and read at a token and an expert it
  is the reference's gating of that token's logits (`res_apply`).
-/
module

public import proofs.«01_k».proof.Proof.Choice
public import proofs.«01_k».proof.Proof.Consts
public import proofs.«01_k».proof.Proof.Gen.ReferenceIdeal.Run

@[expose] public section

noncomputable section

namespace Cert.Gating

open Idealize.ShloMosaic

/-- The logits of token `r`, from the tokens, the experts' weights and their biases. -/
def logits (x : FVec Ideal ⟨2, ![32768, 768]⟩ .f32) (W : FVec Ideal ⟨2, ![64, 768]⟩ .f32) (b : FVec Ideal ⟨1, ![64]⟩ .f32)
    (r : Fin 32768) : Row := fun j => ∑ k, x (ix2 r k) * W (ix2 j k) + b (ix1 j)

end Cert.Gating

namespace Cert.ReferenceIdeal.Stages

open Idealize.ShloMosaic Cert.ReferenceIdeal Cert.ReferenceIdeal.Gen Cert.Gating

/-- The reference's logits, for all tokens. -/
def scores (x : FVec Ideal S32768x768 .f32) (W : FVec Ideal S64x768 .f32) (b : FVec Ideal S64 .f32) : FVec Ideal S32768x64 .f32 :=
  addf (Host.dotGeneral dot_S32768x768_S768x64_S32768x64_1_0_0_1_n_n none x (transpose S768x64 [1, 0] W transposes_S64x768_S768x64_1_0))
    (broadcastInDim S32768x64 ![0, 1] bcast_S1x64_S32768x64_0_1 (broadcastInDim S1x64 ![1] bcast_S64_S1x64_1 b))

/-- One number per token, repeated for each expert. -/
def spread (v : FVec Ideal S32768 .f32) : FVec Ideal S32768x64 .f32 :=
  broadcastInDim S32768x64 ![0, 1] bcast_S32768x1_S32768x64_0_1 (broadcastInDim S32768x1 ![0] bcast_S32768_S32768x1_0 v)

/-- The same constant everywhere. -/
def const (w : BitVec 32) : FVec Ideal S32768x64 .f32 :=
  broadcastInDim S32768x64 ![] bcast_S_S32768x64 (constant S_ .f32 w)

/-- Each token's greatest entry. -/
def rowMax (v : FVec Ideal S32768x64 .f32) : FVec Ideal S32768 .f32 :=
  maximumf (broadcastInDim S32768 ![] bcast_S_S32768 (constant S_ .f32 0xFF800000#32))
    (Host.reduce FloatOps.maximumf v (constant S_ .f32 0xFF800000#32) reducesTo_S32768x64_S32768_d1 h_S_)

/-- Each token's entries less the greatest, exponentiated. -/
def shiftedExp (v : FVec Ideal S32768x64 .f32) : FVec Ideal S32768x64 .f32 := Host.exp (subf v (spread (rowMax v)))

/-- Each token's sum over the experts. -/
def rowSum (v : FVec Ideal S32768x64 .f32) : FVec Ideal S32768 .f32 :=
  Host.reduceAdd v (constant S_ .f32 0x00000000#32) reducesTo_S32768x64_S32768_d1 h_S_

/-- The softmax over the experts. -/
def probs (v : FVec Ideal S32768x64 .f32) : FVec Ideal S32768x64 .f32 :=
  Host.divf (shiftedExp v) (spread (rowSum (shiftedExp v)))

/-- Each token's entry 62 in ascending order. -/
def second (v : FVec Ideal S32768x64 .f32) : FVec Ideal S32768 .f32 :=
  shapeCast _ (extractStridedSlice S32768x1 ![0, 62] (Host.sort S32768x64 1 comparator_f32_d1 v) slices_S32768x64_S32768x1_0_62)
    shapeCasts_S32768x1_S32768

/-- The transformed probabilities. -/
def transformed (v : FVec Ideal S32768x64 .f32) : FVec Ideal S32768x64 .f32 :=
  select (cmpf .olt v (spread (second v)))
    (mulf (const 0x41200000#32) (Host.log (addf (probs v) (const 0x3F800000#32))))
    (mulf (const 0x41200000#32) (subf (Host.exp (probs v)) (const 0x3F800000#32)))

set_option maxRecDepth 16384 in
/-- The reference's result is the softmax of the transformed probabilities of its logits. -/
theorem res_eq (m : (ℓ : Loc nD τ sig) → Buf (Elt Ideal) ℓ) (c : Dev nD) :
    Value.res_main_v43 m c = probs (transformed (scores (m ((c.tc : Thread nD τ).loc main_arg0))
      (m ((c.tc : Thread nD τ).loc main_arg1)) (m ((c.tc : Thread nD τ).loc main_arg2)))) := rfl

/-! ## The stages at an index -/

/-- Token `r`'s row of an array. -/
def rowOf (v : FVec Ideal S32768x64 .f32) (r : Fin 32768) : Row := fun j => v (ix2 r j)

/-- Row `r` of the reference's scores is token `r`'s logits. -/
theorem scores_row (x : FVec Ideal S32768x768 .f32) (W : FVec Ideal S64x768 .f32) (b : FVec Ideal S64 .f32) (r : Fin 32768) :
    rowOf (scores x W b) r = logits x W b r := by
  funext j
  unfold rowOf logits
  pointwise [scores]

/-- A number per token, spread over the experts, reads the token's number at every expert. -/
theorem spread_apply (v : FVec Ideal S32768 .f32) (r : Fin 32768) (j : Fin 64) : spread v (ix2 r j) = v (ix1 r) := by
  pointwise [spread]

/-- A constant array reads the constant everywhere. -/
theorem const_apply (w : BitVec 32) (r : Fin 32768) (j : Fin 64) : const w (ix2 r j) = Ideal.ofBits .f32 w := by
  pointwise [const]

/-- A maximum over the lanes of an `n × 64` array, at a row: the fold over the row's 64 entries. -/
theorem reduce_max_row {n : ℕ} {u : Shape} (h : (⟨2, ![n, 64]⟩ : Shape).ReducesTo [1] ⟨1, ![n]⟩) (hu : 0 < u.numel)
    (x : FVec Ideal ⟨2, ![n, 64]⟩ .f32) (init : FVec Ideal u .f32) (r : Fin n) :
    Host.reduce FloatOps.maximumf x init h hu (ix1 r) = Finset.univ.fold max (init (Shape.Idx.first hu)) (fun k => x (ix2 r k)) := by
  rw [Host.reduce_eq_fold]
  exact Shape.ReducesTo.fold_fiber_r2_a1 _ _ _ _ _

/-- The maximum of two arrays reads the greater of the two entries. -/
theorem maximumf_apply {s : Shape} (x y : FVec Ideal s .f32) (j : s.Idx) : maximumf x y j = max (x j) (y j) := rfl

/-- A constant reads the value of its word. -/
theorem constant_apply {s : Shape} (w : BitVec 32) (j : s.Idx) : constant (F := Ideal) s .f32 w j = Ideal.ofBits .f32 w := rfl

/-- The reference's row maximum is the row's `top`. -/
theorem rowMax_apply (v : FVec Ideal S32768x64 .f32) (r : Fin 32768) : rowMax v (ix1 r) = top (rowOf v r) := by
  unfold rowMax top
  rw [maximumf_apply, reduce_max_row, ValueIdx.broadcastInDim_scalar_apply, constant_apply, constant_apply, pattern_bot,
    max_eq_right bot_le]
  rfl

/-- The shifted exponential at an expert: the exponential of the entry less the row's greatest. -/
theorem shiftedExp_apply (v : FVec Ideal S32768x64 .f32) (r : Fin 32768) (j : Fin 64) :
    shiftedExp v (ix2 r j) = expRow (rowOf v r) (top (rowOf v r)) j := by
  unfold expRow
  pointwise [shiftedExp]
  rw [spread_apply, rowMax_apply, rowOf]

/-- The reference's row sum is the sum of the row's 64 entries. -/
theorem rowSum_apply (v : FVec Ideal S32768x64 .f32) (r : Fin 32768) : rowSum v (ix1 r) = ∑ k, v (ix2 r k) := by
  unfold rowSum
  rw [ValueIdx.hostReduceAdd_apply, Ideal.hostReduceAdd_r2_a1]
  show Ideal.ofBits .f32 0x00000000#32 + _ = _
  rw [Ideal.ofBits_zero_f32, zero_add]
  rfl

/-- Each row of the reference's probabilities is the softmax of the row. -/
theorem probs_row (v : FVec Ideal S32768x64 .f32) (r : Fin 32768) : rowOf (probs v) r = softmax (rowOf v r) := by
  funext j
  unfold softmax
  rw [rowOf]
  pointwise [probs]
  rw [spread_apply, rowSum_apply]
  simp only [shiftedExp_apply]

/-- The comparator of the sort is the strict order: it replaces a zero by zero and a not-a-number by its canonical
    pattern first, which changes no extended real. -/
theorem comparator_iff (a b : EReal) : comparator_f32_d1 (F := Ideal) a b = 1#1 ↔ a < b := by
  have hz : ∀ y : EReal, Scalar.select (Ideal.cmp .oeq y 0) 0 y = y := fun y => by
    by_cases e : y = 0 <;> simp [Scalar.select, Ideal.cmp, e]
  have hn : ∀ w y y' : EReal, Scalar.select (Ideal.cmp .une y y) w y' = y' := fun w y y' => by
    simp [Scalar.select, Ideal.cmp]
  have e0 : comparator_f32_d1 (F := Ideal) a b = Ideal.cmp .olt
      (Scalar.select (Ideal.cmp .une a a) (Ideal.ofBits .f32 0x7FC00000#32)
        (Scalar.select (Ideal.cmp .oeq a (Ideal.ofBits .f32 0x00000000#32)) (Ideal.ofBits .f32 0x00000000#32) a))
      (Scalar.select (Ideal.cmp .une b b) (Ideal.ofBits .f32 0x7FC00000#32)
        (Scalar.select (Ideal.cmp .oeq b (Ideal.ofBits .f32 0x00000000#32)) (Ideal.ofBits .f32 0x00000000#32) b)) := rfl
  rw [e0, Ideal.ofBits_zero_f32, hz, hz, hn, hn]
  by_cases hab : a < b <;> simp [Ideal.cmp, hab]

/-- The sorted row's entry 62 is the greatest of the row with its top expert taken out. -/
theorem second_apply (v : FVec Ideal S32768x64 .f32) (r : Fin 32768) (i : Fin 64) (h : OneTop (rowOf v r) i) :
    second v (ix1 r) = top (without (rowOf v r) i) := by
  rw [← sorted_second h (fun k k' => comparator_f32_d1 (F := Ideal) (rowOf v r k) (rowOf v r k') == 1#1)
    (fun a b => by rw [beq_iff_eq]; exact comparator_iff _ _)]
  pointwise [second]
  have ha : ∀ k : Fin 64, (ix2 r (62 : Fin 64) : S32768x64.Idx).along 1 k = ix2 r k := fun k => by
    rw [eq_ix2 ((ix2 r (62 : Fin 64) : S32768x64.Idx).along 1 k)]; rfl
  unfold Host.sort
  rw [dif_pos (by decide)]
  show v ((ix2 r (62 : Fin 64) : S32768x64.Idx).along 1 (sortedFrom (n := 64) (fun k k' => comparator_f32_d1
    (v ((ix2 r (62 : Fin 64) : S32768x64.Idx).along 1 k)) (v ((ix2 r (62 : Fin 64) : S32768x64.Idx).along 1 k')) == 1#1) (62 : Fin 64))) = _
  simp only [ha]
  rfl

/-- Each row of the reference's transformed scores is `refScore` of the row. -/
theorem transformed_row (v : FVec Ideal S32768x64 .f32) (r : Fin 32768) (i : Fin 64) (h : OneTop (rowOf v r) i) :
    rowOf (transformed v) r = refScore (rowOf v r) (top (without (rowOf v r) i)) := by
  have hp : ∀ j, probs v (ix2 r j) = softmax (rowOf v r) j := fun j => congrFun (probs_row v r) j
  funext j
  unfold refScore
  rw [rowOf]
  pointwise [transformed]
  rw [spread_apply, second_apply v r i h, hp, const_apply, const_apply, pattern_ten, Ideal.ofBits_one_f32]
  rfl

/-- The reference's result at token `r` and expert `j`, where expert `i` alone holds the token's top logit. -/
theorem res_apply (m : (ℓ : Loc nD τ sig) → Buf (Elt Ideal) ℓ) (c : Dev nD) (r : Fin 32768) (i j : Fin 64)
    (h : OneTop (logits (m ((c.tc : Thread nD τ).loc main_arg0)) (m ((c.tc : Thread nD τ).loc main_arg1))
      (m ((c.tc : Thread nD τ).loc main_arg2)) r) i) :
    Value.res_main_v43 m c (ix2 r j) = refRow (logits (m ((c.tc : Thread nD τ).loc main_arg0))
      (m ((c.tc : Thread nD τ).loc main_arg1)) (m ((c.tc : Thread nD τ).loc main_arg2)) r)
      (top (without (logits (m ((c.tc : Thread nD τ).loc main_arg0)) (m ((c.tc : Thread nD τ).loc main_arg1))
        (m ((c.tc : Thread nD τ).loc main_arg2)) r) i)) j := by
  rw [← scores_row] at h ⊢
  rw [res_eq]
  refine (congrFun (probs_row _ r) j).trans ?_
  rw [transformed_row _ r i h, refRow]

end Cert.ReferenceIdeal.Stages

end
-- ==== Proof.Array.lean ====
/-
  THE KERNEL'S RESULT ARRAY: after the run, entry (token, expert) of the result is the kernel's gating of that token's
  logits (`final`). The grid's point `t` computes tokens `4096 t` to `4096 t + 4095`.
-/
module

public import proofs.«01_k».proof.Proof.Block
public import proofs.«01_k».proof.Proof.Ref
public import proofs.«01_k».proof.Proof.Gen.KernelIdeal.Value
public import Idealize.ShloMosaic.Lib.Pipeline.ValueKit

@[expose] public section

set_option maxRecDepth 16384

noncomputable section

namespace Cert.Gating

open Idealize.ShloMosaic Idealize.ShloMosaic.TcCoe Cert.KernelIdeal Cert.KernelIdeal.Gen

variable (m : (ℓ : Loc nD τ sig) → Buf (Elt Ideal) ℓ) (c : Dev nD)

/-- Where each window's block lies at point `t`: the tokens' and the result's at block row `t`, the others whole. -/
theorem idx : ∀ t : Fin grid0.N, win0_0.index t = ![t.val, 0] ∧ win0_1.index t = ![0, 0] ∧ win0_2.index t = ![0, 0]
    ∧ win0_3.index t = ![t.val, 0] := by decide +kernel

/-- The logits that point `t` computes for its token `r` are those of token `4096 t + r`. -/
theorem block_row (t : Fin cfg0.N) (r : Fin 4096) (r' : Fin 32768) (h : r'.val = 4096 * t.val + r.val) :
    blockRow (iblk m c 0 t) (iblk m c 1 t) (iblk m c 2 t) r = (logits (m ((c : Thread nD τ).loc main_arg0)) (m ((c : Thread nD τ).loc main_arg1)) (m ((c : Thread nD τ).loc main_arg2)) r') := by
  have e := idx t
  funext j
  unfold blockRow logits
  have e0 : ∀ x, iblk m c 0 t (ix2 r x) = m ((c : Thread nD τ).loc main_arg0) (ix2 r' x) := fun x => by
    blk_ext [iblk, V, e.1]
  have e1 : ∀ x, iblk m c 1 t (ix2 x j) = m ((c : Thread nD τ).loc main_arg1) (ix2 j x) := fun x => by
    blk_simp [iblk]
    entry_read
    pointwise
    blk_ext [e.2.1]
  have e2 : iblk m c 2 t (ix2 0 j) = m ((c : Thread nD τ).loc main_arg2) (ix1 j) := by
    blk_simp [iblk]
    entry_read
    pointwise
    blk_ext [e.2.2.1]
  simp only [e0, e1, e2]

/-- Entry (token, expert) of the result after the run, where each token's top logit is held by one expert `I token`. -/
theorem final (I : Fin 32768 → Fin 64)
    (hI : ∀ r, OneTop (logits (m ((c : Thread nD τ).loc main_arg0)) (m ((c : Thread nD τ).loc main_arg1)) (m ((c : Thread nD τ).loc main_arg2)) r) (I r)) :
    (dats m 0 c).arrAt 3 cfg0.N = fun y : S32768x64.Idx =>
      kernelRow (logits (m ((c : Thread nD τ).loc main_arg0)) (m ((c : Thread nD τ).loc main_arg1)) (m ((c : Thread nD τ).loc main_arg2)) (y 0)) (I (y 0)) (y 1) := by
  refine (dats m 0 c).arrAt_eq_of_covers 3 _ (by decide +kernel) fun t hf y => ?_
  blk_simp
  rw [after0_3]
  frame_out
  have e := (idx t).2.2.2
  have h0 : ((((cfg0.win 3).blk t).view.emb y) 0).val = 4096 * t.val + (y 0).val := by
    blk_simp [e]; omega
  have h1 : (((cfg0.win 3).blk t).view.emb y) 1 = y 1 := by
    apply Fin.ext; blk_simp [e]
  have key := block_row m c t (y 0) ((((cfg0.win 3).blk t).view.emb y) 0) h0
  have hb := block_apply (iblk m c 0 t) (iblk m c 1 t) (iblk m c 2 t) (y 0) (I ((((cfg0.win 3).blk t).view.emb y) 0))
    (by rw [key]; exact hI _) (y 1)
  rw [key] at hb
  have hy : (ix2 (y 0) (y 1) : S4096x64.Idx) = y := (eq_ix2 (n0 := 4096) (n1 := 64) y).symm
  rw [hy] at hb
  exact hb.trans (congrArg (kernelRow _ _) h1.symm)

end Cert.Gating

end
-- ==== Proof.Pre.lean ====
/-
  THE PRECONDITION: it says of each token that exactly one expert's logit equals the greatest and that the greatest is
  below `+∞`. Read at a token it is `OneTop` of the token's logits (`one_top`).
-/
module

public import proofs.«01_k».proof.Proof.Ref
public import proofs.«01_k».proof.Proof.Gen.Pre_one_finite_top

@[expose] public section

noncomputable section

namespace Cert.Gating

open Idealize.ShloMosaic

/-! ## A count of one -/

/-- The 32-bit sum of 64 flags is the number of flags that are set. -/
theorem fold_flags (p : Fin 64 → Prop) [DecidablePred p] (s : Finset (Fin 64)) :
    s.fold IntOp.addi 0#32 (fun k => if p k then 1#32 else 0#32) = BitVec.ofNat 32 (s.filter p).card := by
  induction s using Finset.induction_on with
  | empty => rfl
  | insert a s ha ih =>
    rw [Finset.fold_insert ha, ih, Finset.filter_insert]
    by_cases h : p a
    · rw [if_pos h, if_pos h, Finset.card_insert_of_notMem (fun hm => ha (Finset.mem_filter.mp hm).1)]
      show 1#32 + BitVec.ofNat 32 _ = _
      rw [Nat.add_comm, BitVec.ofNat_add]
    · rw [if_neg h, if_neg h]
      show 0#32 + BitVec.ofNat 32 _ = _
      rw [BitVec.zero_add]

/-- If the 32-bit sum of 64 flags is one, exactly one flag is set. -/
theorem unique_of_fold (p : Fin 64 → Prop) [DecidablePred p]
    (h : Finset.univ.fold IntOp.addi 0#32 (fun k => if p k then 1#32 else 0#32) = 1#32) : ∃ i, ∀ k, p k ↔ k = i := by
  rw [fold_flags] at h
  have hc : (Finset.univ.filter p).card ≤ 64 := (Finset.card_le_univ _).trans (by simp)
  have h1 : (Finset.univ.filter p).card = 1 := by
    have := congrArg BitVec.toNat h
    rw [BitVec.toNat_ofNat, Nat.mod_eq_of_lt (by omega)] at this
    exact this
  obtain ⟨i, hi⟩ := Finset.card_eq_one.mp h1
  refine ⟨i, fun k => ?_⟩
  have := Finset.ext_iff.mp hi k
  simpa using this

/-- A row in which one entry alone equals the greatest, the greatest being below `+∞`. -/
theorem oneTop_of_unique (z : Row) (h : ∃ i, ∀ k, z k = top z ↔ k = i) (ht : top z < ⊤) : ∃ i, OneTop z i := by
  obtain ⟨i, hi⟩ := h
  have hz : z i = top z := (hi i).mpr rfl
  refine ⟨i, fun j hj => ?_, hz ▸ ht⟩
  rw [hz]
  exact lt_of_le_of_ne (le_top z j) fun e => hj ((hi j).mp e)

/-- An integer sum over the lanes of an `n × 64` array, at a row: the fold over the row's 64 entries. -/
theorem reduce_addi_row {n : ℕ} {u : Shape} (h : (⟨2, ![n, 64]⟩ : Shape).ReducesTo [1] ⟨1, ![n]⟩) (hu : 0 < u.numel)
    (x : IVec ⟨2, ![n, 64]⟩ 32) (init : IVec u 32) (r : Fin n) :
    Host.reduce IntOp.addi x init h hu (ix1 r) = Finset.univ.fold IntOp.addi (init (Shape.Idx.first hu)) (fun k => x (ix2 r k)) := by
  rw [Host.reduce_eq_fold]
  exact Shape.ReducesTo.fold_fiber_r2_a1 _ _ _ _ _

end Cert.Gating

namespace Cert.Pre_one_finite_top.Stages

open Idealize.ShloMosaic Cert.Pre_one_finite_top Cert.Pre_one_finite_top.Gen Cert.Gating

/-- The predicate's logits, for all tokens. -/
def scores (x : FVec Ideal S32768x768 .f32) (W : FVec Ideal S64x768 .f32) (b : FVec Ideal S64 .f32) : FVec Ideal S32768x64 .f32 :=
  addf (Host.dotGeneral dot_S32768x768_S768x64_S32768x64_1_0_0_1_n_n none x (transpose S768x64 [1, 0] W transposes_S64x768_S768x64_1_0))
    (broadcastInDim S32768x64 ![0, 1] bcast_S1x64_S32768x64_0_1 (broadcastInDim S1x64 ![1] bcast_S64_S1x64_1 b))

/-- Each token's greatest entry. -/
def greatest (v : FVec Ideal S32768x64 .f32) : FVec Ideal S32768 .f32 :=
  Host.reduce FloatOps.maximumf v (constant S_ .f32 0xFF800000#32) reducesTo_S32768x64_S32768_d1 h_S_

/-- A column of one number per token. -/
def column {α : Type} (v : S32768.Idx → α) : S32768x1.Idx → α := broadcastInDim S32768x1 ![0] bcast_S32768_S32768x1_0 v

/-- The entries that equal their token's greatest, as words 0 and 1. -/
def flags (v : FVec Ideal S32768x64 .f32) (t : FVec Ideal S32768 .f32) : IVec S32768x64 32 :=
  extui 32 (cmpf .oeq v (broadcastInDim S32768x64 ![0, 1] bcast_S32768x1_S32768x64_0_1 (column t))) natLt_1_32

/-- Each token's number of such entries. -/
def count (f : IVec S32768x64 32) : IVec S32768 32 :=
  Host.reduce IntOp.addi f (constantI S_ 32 0#32) reducesTo_S32768x64_S32768_d1 h_S_

/-- The number is one, and the greatest is below `+∞`. -/
def holds (t : FVec Ideal S32768 .f32) (n : IVec S32768 32) : IVec S32768x1 1 :=
  andi (cmpi .eq (column n) (broadcastInDim S32768x1 ![] bcast_S_S32768x1 (constantI S_ 32 1#32)))
    (cmpf .olt (column t) (broadcastInDim S32768x1 ![] bcast_S_S32768x1 (constant S_ .f32 0x7F800000#32)))

/-- The predicate is these stages. -/
theorem fn_eq (x : FVec Ideal S32768x768 .f32) (W : FVec Ideal S64x768 .f32) (b : FVec Ideal S64 .f32) :
    fn x W b = holds (greatest (scores x W b)) (count (flags (scores x W b) (greatest (scores x W b)))) := rfl

/-- The predicate's logits are each token's row of logits. -/
theorem scores_apply (x : FVec Ideal S32768x768 .f32) (W : FVec Ideal S64x768 .f32) (b : FVec Ideal S64 .f32) (r : Fin 32768)
    (j : Fin 64) : scores x W b (ix2 r j) = logits x W b r j := by
  unfold logits
  pointwise [scores]

/-- A token's greatest entry is its row's `top`. -/
theorem greatest_apply (v : FVec Ideal S32768x64 .f32) (r : Fin 32768) : greatest v (ix1 r) = top (fun j => v (ix2 r j)) := by
  unfold greatest top
  rw [Cert.ReferenceIdeal.Stages.reduce_max_row, Cert.ReferenceIdeal.Stages.constant_apply, pattern_bot]

/-- A flag is 1 where the entry equals its token's greatest and 0 elsewhere. -/
theorem flags_apply (v : FVec Ideal S32768x64 .f32) (t : FVec Ideal S32768 .f32) (r : Fin 32768) (j : Fin 64) :
    flags v t (ix2 r j) = if v (ix2 r j) = t (ix1 r) then 1#32 else 0#32 := by
  have e : flags v t (ix2 r j) = (Ideal.cmp .oeq (v (ix2 r j)) (t (ix1 r))).setWidth 32 := by
    pointwise [flags, column]
  rw [e]
  by_cases h : v (ix2 r j) = t (ix1 r) <;> simp [Ideal.cmp, h]

/-- A token's count is the 32-bit sum of its 64 flags. -/
theorem count_apply (f : IVec S32768x64 32) (r : Fin 32768) : count f (ix1 r) = Finset.univ.fold IntOp.addi 0#32 (fun k => f (ix2 r k)) := by
  unfold count
  rw [reduce_addi_row]
  rfl

/-- Where the predicate holds, the token's count is one and its greatest entry is below `+∞`. -/
theorem holds_apply (t : FVec Ideal S32768 .f32) (n : IVec S32768 32) (r : Fin 32768) (h : holds t n (ix2 r 0) = 1#1) :
    n (ix1 r) = 1#32 ∧ t (ix1 r) < ⊤ := by
  have e : holds t n (ix2 r 0) = IntOp.andi (IntOp.cmpi .eq (n (ix1 r)) 1#32) (Ideal.cmp .olt (t (ix1 r)) (Ideal.ofBits .f32 0x7F800000#32)) := by
    pointwise [holds, column]
  rw [e, pattern_top] at h
  have key : ∀ p q : Bool, BitVec.ofBool p &&& BitVec.ofBool q = 1#1 → p = true ∧ q = true := by decide
  obtain ⟨h1, h2⟩ := key _ _ h
  exact ⟨by simpa using h1, by simpa using h2⟩

/-- Under the precondition each token's logits have one top, below `+∞`. -/
theorem one_top (x : FVec Ideal S32768x768 .f32) (W : FVec Ideal S64x768 .f32) (b : FVec Ideal S64 .f32)
    (h : fn x W b = fun _ => 1#1) (r : Fin 32768) : ∃ i, OneTop (logits x W b r) i := by
  have hr := congrFun h (ix2 r 0)
  rw [fn_eq] at hr
  obtain ⟨h1, h2⟩ := holds_apply _ _ r hr
  have ht : greatest (scores x W b) (ix1 r) = top (logits x W b r) := by
    rw [greatest_apply]
    simp only [scores_apply]
  rw [count_apply] at h1
  simp only [flags_apply, ht, scores_apply] at h1
  rw [ht] at h2
  exact oneTop_of_unique _ (unique_of_fold _ h1) h2

end Cert.Pre_one_finite_top.Stages

end
-- ==== Proof.lean ====
/-
  THE CERTIFICATE: the proof of everything that `Cert.Claim` (Defs.lean) states, assembled.

  * The frames of the kernel, at words and at extended reals, are the generated ones. The reference's is its generated
    run, with its counters at zero because it has none (`reference_frame`).
  * The idealized kernel replaces no operation, so nothing stands in its ledger to be preserved.
  * The value claim (`values`): under the precondition each token has one top expert (Pre.lean), the kernel's array is then
    the kernel's weights of each token's logits (Block.lean, Array.lean), the reference's array is the reference's
    weights (Ref.lean), and the two are equal (Row.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_one_finite_top
public import proofs.«01_k».proof.Proof.Array
public import proofs.«01_k».proof.Proof.Pre
public import Idealize.ShloMosaic.Adequacy
public import Idealize.ShloMosaic.Init

@[expose] public section

noncomputable section

namespace Cert.Proof

open Idealize.ShloMosaic Idealize.SL.Sem Cert.Gating

/-- The reference runs, leaves its arguments unchanged and ends with every counter at zero: it declares no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Where every token has one top expert, the kernel's final array is the reference's. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v43 m' c = (Cert.KernelIdeal.Gen.dats m 0 c).arrAt 3 Cert.KernelIdeal.cfg0.N := by
  choose I hI using fun r => Cert.Pre_one_finite_top.Stages.one_top _ _ _ (hpre c) r
  rw [final m c I hI]
  funext y
  have hy : (y : Cert.ReferenceIdeal.S32768x64.Idx) = ix2 (y 0) (y 1) := eq_ix2 (n0 := 32768) (n1 := 64) y
  have hr := Cert.ReferenceIdeal.Stages.res_apply m' c (y 0) (I (y 0)) (y 1) (by rw [e0, e1, e2]; exact hI _)
  rw [e0, e1, e2] at hr
  exact (congrArg (Cert.ReferenceIdeal.Value.res_main_v43 m' c) hy).trans (hr.trans (kernelRow_eq_refRow (hI (y 0)) (y 1)).symm)

/-- The idealized kernel and the reference, from equal arguments under the precondition, end with equal results. -/
theorem values : Cert.algebraic_KernelIdeal_ReferenceIdeal := fun m g m' g' hpre hagree =>
  ⟨fun c => (Cert.KernelIdeal.Gen.dats m 0 c).arrAt 3 Cert.KernelIdeal.cfg0.N,
    Cert.KernelIdeal.Value.run_blocks (F := Ideal) m g,
    (θ_run Cert.ReferenceIdeal.defs _ _).mono
      (fun _ h c => ⟨(h c).1.trans (arrays_eq m m' c hpre (hagree c).1 (hagree c).2.1 (hagree c).2.2), (h c).2⟩)
      (Cert.ReferenceIdeal.Value.run (F := Ideal) m' g')⟩

/-- Everything `Cert.Claim` states. -/
theorem claim : Cert.Claim :=
  ⟨Cert.Kernel.Gen.facts, Cert.KernelIdeal.Gen.facts, Cert.ReferenceIdeal.Gen.facts, Cert.Pre_one_finite_top.Gen.facts,
    fun m ρ _ => Cert.Kernel.Gen.frame m ρ,
    fun m ρ _ => Cert.Kernel.Gen.frame m ρ,
    fun m ρ _ => Cert.KernelIdeal.Gen.frame m ρ,
    reference_frame,
    fun m ρ _ => reference_frame m ρ trivial,
    trivial,
    values⟩

end Cert.Proof

end
